-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x4608 : Shape := ⟨3, ![4, 3072, 4608]⟩
abbrev S4x3072x1 : Shape := ⟨3, ![4, 3072, 1]⟩
abbrev S4608x8192 : Shape := ⟨2, ![4608, 8192]⟩
abbrev S1x8192 : Shape := ⟨2, ![1, 8192]⟩
abbrev S12288x4608 : Shape := ⟨2, ![12288, 4608]⟩
abbrev S12288x1 : Shape := ⟨2, ![12288, 1]⟩
abbrev S12288x8192 : Shape := ⟨2, ![12288, 8192]⟩
abbrev S256x4608 : Shape := ⟨2, ![256, 4608]⟩
abbrev S256x1 : Shape := ⟨2, ![256, 1]⟩
abbrev S256x8192 : Shape := ⟨2, ![256, 8192]⟩
abbrev S256x128 : Shape := ⟨2, ![256, 128]⟩
abbrev S4608x512 : Shape := ⟨2, ![4608, 512]⟩
abbrev S256x512 : Shape := ⟨2, ![256, 512]⟩
abbrev S1x512 : Shape := ⟨2, ![1, 512]⟩
abbrev S256 : Shape := ⟨1, ![256]⟩
abbrev S1x256 : Shape := ⟨2, ![1, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S4x3072x4608, .fp8e4m3⟩
  | .hbm, ⟨1, _⟩ => ⟨S4x3072x1, .f32⟩
  | .hbm, ⟨2, _⟩ => ⟨S4608x8192, .fp8e4m3⟩
  | .hbm, ⟨3, _⟩ => ⟨S1x8192, .f32⟩
  | .hbm, ⟨4, _⟩ => ⟨S12288x4608, .fp8e4m3⟩
  | .hbm, ⟨5, _⟩ => ⟨S12288x1, .f32⟩
  | .hbm, ⟨6, _⟩ => ⟨S12288x1, .f32⟩
  | .hbm, ⟨7, _⟩ => ⟨S12288x8192, .fp8e4m3⟩
  | .local _ .vmem, ⟨0, _⟩ => ⟨S256x4608, .fp8e4m3⟩
  | .local _ .vmem, ⟨1, _⟩ => ⟨S256x4608, .fp8e4m3⟩
  | .local _ .vmem, ⟨2, _⟩ => ⟨S256x1, .f32⟩
  | .local _ .vmem, ⟨3, _⟩ => ⟨S256x1, .f32⟩
  | .local _ .vmem, ⟨4, _⟩ => ⟨S4608x8192, .fp8e4m3⟩
  | .local _ .vmem, ⟨5, _⟩ => ⟨S1x8192, .f32⟩
  | .local _ .vmem, ⟨6, _⟩ => ⟨S256x1, .f32⟩
  | .local _ .vmem, ⟨7, _⟩ => ⟨S256x1, .f32⟩
  | .local _ .vmem, ⟨8, _⟩ => ⟨S256x8192, .fp8e4m3⟩
  | .local _ .vmem, ⟨9, _⟩ => ⟨S256x8192, .fp8e4m3⟩
  | .local _ .vmem, ⟨10, _⟩ => ⟨S256x8192, .f32⟩
  | _, _ => ⟨S4x3072x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4608x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x3072x4608 : Shape := ⟨3, ![4, 3072, 4608]⟩
abbrev S4x3072x1 : Shape := ⟨3, ![4, 3072, 1]⟩
abbrev S4608x8192 : Shape := ⟨2, ![4608, 8192]⟩
abbrev S1x8192 : Shape := ⟨2, ![1, 8192]⟩
abbrev S12288x4608 : Shape := ⟨2, ![12288, 4608]⟩
abbrev S12288x1 : Shape := ⟨2, ![12288, 1]⟩
abbrev S12288x8192 : Shape := ⟨2, ![12288, 8192]⟩
abbrev S12288 : Shape := ⟨1, ![12288]⟩

abbrev nBuf : Space → Nat
  | .hbm => 8
  | .vmem => 6
  | .smem => 0
  | _ => 0

abbrev bufTy : (tb : Table) → Fin (tcTables nBuf tb) → BufTy
  | .hbm, ⟨0, _⟩ => ⟨S4x3072x4608, .fp8e4m3⟩
  | .hbm, ⟨1, _⟩ => ⟨S4x3072x1, .f32⟩
  | .hbm, ⟨2, _⟩ => ⟨S4608x8192, .fp8e4m3⟩
  | .hbm, ⟨3, _⟩ => ⟨S1x8192, .f32⟩
  | .hbm, ⟨4, _⟩ => ⟨S12288x4608, .fp8e4m3⟩
  | .hbm, ⟨5, _⟩ => ⟨S12288x1, .f32⟩
  | .hbm, ⟨6, _⟩ => ⟨S12288x1, .f32⟩
  | .hbm, ⟨7, _⟩ => ⟨S12288x8192, .fp8e4m3⟩
  | .local _ .vmem, ⟨0, _⟩ => ⟨S12288x4608, .fp8e4m3⟩
  | .local _ .vmem, ⟨1, _⟩ => ⟨S12288x1, .f32⟩
  | .local _ .vmem, ⟨2, _⟩ => ⟨S4608x8192, .fp8e4m3⟩
  | .local _ .vmem, ⟨3, _⟩ => ⟨S1x8192, .f32⟩
  | .local _ .vmem, ⟨4, _⟩ => ⟨S12288x1, .f32⟩
  | .local _ .vmem, ⟨5, _⟩ => ⟨S12288x8192, .fp8e4m3⟩
  | _, _ => ⟨S4x3072x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pow2.lean ====
/- The scalar heart of the requantisation: the exponent a row's maximum asks for, found by counting bit patterns (the
kernel) or by `⌊log₂ t⌋ + 1` (the reference), and the power of two with that exponent, read from its bits (the kernel) or
computed by `exp2` (the reference). -/
module

public import Idealize.ShloMosaic.Lib.Pointwise

@[expose] public section

set_option maxRecDepth 16384

noncomputable section

namespace Requant

open Idealize.ShloMosaic

/-! ## Patterns whose fraction is zero -/

/-- The three parts of the pattern `k <<< 23`: sign clear, exponent field `k`, fraction zero. -/
theorem fields_shl : ∀ k : Fin 256,
    ((BitVec.ofNat 32 k.val <<< 23).extractLsb' 31 1 == 1#1) = false ∧
    ((BitVec.ofNat 32 k.val <<< 23).extractLsb' 23 8).toNat = k.val ∧
    ((BitVec.ofNat 32 k.val <<< 23).extractLsb' 0 23).toNat = 0 := by
  decide +kernel

/-- What a 32-bit pattern with the sign clear denotes, by its exponent field and its fraction. -/
theorem ofBits_parts (b : BitVec 32) (hs : (b.extractLsb' 31 1 == 1#1) = false) :
    Ideal.ofBits .f32 b = (if (b.extractLsb' 23 8).toNat = 255 then
        (if (b.extractLsb' 0 23).toNat = 0 then ⊤ else ⊥)
      else if (b.extractLsb' 23 8).toNat = 0 then
        (((b.extractLsb' 0 23).toNat * (2 : ℝ) ^ (-149 : ℤ) : ℝ) : EReal)
      else (((2 ^ 23 + (b.extractLsb' 0 23).toNat : ℕ) * (2 : ℝ) ^ (((b.extractLsb' 23 8).toNat : ℤ) - 127 - 23) : ℝ) : EReal)) := by
  have h : Ideal.ofBits .f32 b = Ideal.ieee 8 23 b := rfl
  rw [h]
  simp only [Ideal.ieee, Nat.reduceAdd, hs]
  norm_num

/-- The pattern with exponent field `1 ≤ k ≤ 254` and zero fraction denotes `2 ^ (k - 127)`. -/
theorem ofBits_pow (k : Fin 256) (h0 : k.val ≠ 0) (h1 : k.val ≠ 255) :
    Ideal.ofBits .f32 (BitVec.ofNat 32 k.val <<< 23) = (((2 : ℝ) ^ ((k.val : ℤ) - 127) : ℝ) : EReal) := by
  obtain ⟨hs, he, hf⟩ := fields_shl k
  refine (ofBits_parts _ hs).trans ?_
  rw [he, hf, if_neg h1, if_neg h0, EReal.coe_eq_coe_iff,
    show (k.val : ℤ) - 127 = 23 + ((k.val : ℤ) - 127 - 23) by ring, zpow_add₀ (by norm_num : (2 : ℝ) ≠ 0)]
  norm_num

/-- The pattern with exponent field 255 and zero fraction denotes `+∞`. -/
theorem ofBits_top : Ideal.ofBits .f32 (BitVec.ofNat 32 255 <<< 23) = (⊤ : EReal) := by
  obtain ⟨hs, he, hf⟩ := fields_shl 255
  refine (ofBits_parts _ hs).trans ?_
  rw [if_pos (show _ = 255 from he), if_pos hf]

/-- The zero pattern denotes 0. -/
theorem ofBits_zero : Ideal.ofBits .f32 (BitVec.ofNat 32 0 <<< 23) = (0 : EReal) := by
  simp [Ideal.ofBits, Ideal.ieee]

/-! ## Counting the patterns that a value reaches -/

/-- How many of the 256 patterns `k <<< 23` the value `t` reaches, less one: the kernel's exponent field of `t`. -/
def field (t : EReal) : BitVec 32 :=
  IntOp.subi (Finset.fold IntOp.addi (0#32) (fun k : Fin 256 => BitVec.setWidth 32 (BitVec.ofBool (decide
    (Ideal.ofBits .f32 (IntOp.shli ArithUnit.vector (BitVec.ofNat 32 k.val) 23#32) ≤ t)))) Finset.univ) 1#32

/-- A shift by 23 bits on a lane. -/
theorem shl23 (b : BitVec 32) : IntOp.shli ArithUnit.vector b 23#32 = b <<< 23 := by
  simp [IntOp.shli]

/-- Counting an initial segment of the 256 fields. -/
theorem count_le : ∀ n : Fin 256, Finset.fold IntOp.addi (0#32) (fun k : Fin 256 =>
    BitVec.setWidth 32 (BitVec.ofBool (decide (k ≤ n)))) Finset.univ = BitVec.ofNat 32 (n.val + 1) := by
  decide +kernel

/-- If exactly the patterns up to field `n` are reached, the field found is `n`. -/
theorem field_eq {t : EReal} (n : Fin 256)
    (h : ∀ k : Fin 256, Ideal.ofBits .f32 (BitVec.ofNat 32 k.val <<< 23) ≤ t ↔ k ≤ n) :
    field t = BitVec.ofNat 32 n.val := by
  have e : (fun k : Fin 256 => BitVec.setWidth 32 (BitVec.ofBool (decide
      (Ideal.ofBits .f32 (IntOp.shli ArithUnit.vector (BitVec.ofNat 32 k.val) 23#32) ≤ t))))
      = fun k : Fin 256 => BitVec.setWidth 32 (BitVec.ofBool (decide (k ≤ n))) := by
    funext k; simp only [shl23, h]
  rw [field, e, count_le]
  revert n; intro n _ _
  show BitVec.ofNat 32 (n.val + 1) - 1#32 = _
  apply BitVec.eq_of_toNat_eq
  have := n.isLt
  simp; omega

/-- The floor of the binary logarithm. -/
def ilog (r : ℝ) : ℤ := ⌊Real.log r / Real.log 2⌋

/-- A power of two is at most `r` exactly when its exponent is at most the floor of the binary logarithm of `r`. -/
theorem zpow_le {r : ℝ} (hr : 0 < r) (x : ℤ) : (2 : ℝ) ^ x ≤ r ↔ x ≤ ilog r := by
  rw [ilog, Int.le_floor, le_div_iff₀ (Real.log_pos (by norm_num)), ← Real.log_zpow,
    Real.log_le_log_iff (by positivity) hr]

/-- A positive real number reaches exactly the fields up to `⌊log₂ r⌋ + 127`, as far as there are finite ones. -/
theorem reach (r : ℝ) (hr : 0 < r) (k : Fin 256) :
    Ideal.ofBits .f32 (BitVec.ofNat 32 k.val <<< 23) ≤ (r : EReal)
      ↔ k.val = 0 ∨ (k.val ≠ 255 ∧ (k.val : ℤ) - 127 ≤ ilog r) := by
  by_cases h0 : k.val = 0
  · rw [h0, ofBits_zero]; simp [hr.le]
  by_cases h1 : k.val = 255
  · rw [h1, ofBits_top]; simp
  rw [ofBits_pow k h0 h1, EReal.coe_le_coe_iff]
  rw [zpow_le hr]; simp [h0, h1]

/-- The value whose field is below 1 (a zero or a number below `2 ^ -126`) -/
theorem field_small (r : ℝ) (h0 : 0 ≤ r) (h : r < (2 : ℝ) ^ (-126 : ℤ)) : field (r : EReal) = BitVec.ofNat 32 0 := by
  refine field_eq (0 : Fin 256) fun k => ?_
  rcases h0.eq_or_lt with rfl | hr
  · by_cases h0 : k.val = 0
    · rw [h0, ofBits_zero]; simp [Fin.ext_iff, h0]
    by_cases h1 : k.val = 255
    · rw [h1, ofBits_top]; simp [Fin.ext_iff, h1]
    rw [ofBits_pow k h0 h1, EReal.coe_le_coe_iff]
    have : (0 : ℝ) < 2 ^ ((k.val : ℤ) - 127) := by positivity
    simp [Fin.ext_iff, h0, this]
  · rw [reach r hr]
    have : ¬ -126 ≤ ilog r := fun h' => absurd ((zpow_le hr (-126)).2 h') (not_le.2 h)
    rw [Fin.le_def]; show _ ↔ k.val ≤ 0
    omega

/-- A real number from `2 ^ -126` on has the field `⌊log₂ r⌋ + 127`, or 254 where that is larger. -/
theorem field_real (r : ℝ) (hr : 0 < r) (h : -126 ≤ ilog r) :
    field (r : EReal) = BitVec.ofNat 32 (min (ilog r + 127).toNat 254) := by
  refine field_eq ⟨min (ilog r + 127).toNat 254, by omega⟩ fun k => ?_
  rw [reach r hr, Fin.le_def]
  show _ ↔ k.val ≤ min (ilog r + 127).toNat 254
  omega

/-- `+∞` reaches all patterns. -/
theorem field_top : field ⊤ = BitVec.ofNat 32 255 :=
  field_eq (255 : Fin 256) fun k => by simp [Fin.le_def]; omega

/-! ## The exponents -/

/-- The kernel's exponent of `t`: the field less 126, where the field is neither the lowest nor one of the highest. -/
def expField (t : EReal) : BitVec 32 :=
  Scalar.select (IntOp.andi (IntOp.cmpi .sgt (field t) 0#32) (IntOp.cmpi .slt (field t) 253#32))
    (IntOp.subi (field t) 126#32) 0#32

/-- The reference's exponent of `t`: `⌊log₂ t⌋ + 1` in the normal range, 0 outside. -/
def expLog (t : EReal) : EReal :=
  Scalar.select (IntOp.andi (BitVec.ofBool (decide (Ideal.ofBits .f32 0x00800000#32 ≤ t)))
      (BitVec.ofBool (decide (t < Ideal.ofBits .f32 0x7E800000#32))))
    (Ideal.liftRound Int.floor (Ideal.div (Ideal.log t) (Ideal.log (Ideal.ofBits .f32 0x40000000#32))) + 1) 0

/-- The kernel's exponent where the field is known. -/
theorem expField_of (t : EReal) (n : ℕ) (hn : n < 256) (h : field t = BitVec.ofNat 32 n) :
    expField t = BitVec.ofInt 32 (if 0 < n ∧ n < 253 then (n : ℤ) - 126 else 0) := by
  rw [expField, h]
  exact (by decide +kernel : ∀ n : Fin 256, Scalar.select (IntOp.andi (IntOp.cmpi .sgt (BitVec.ofNat 32 n.val) 0#32)
      (IntOp.cmpi .slt (BitVec.ofNat 32 n.val) 253#32)) (IntOp.subi (BitVec.ofNat 32 n.val) 126#32) 0#32
    = BitVec.ofInt 32 (if 0 < n.val ∧ n.val < 253 then (n.val : ℤ) - 126 else 0)) ⟨n, hn⟩

theorem ofBits_min : Ideal.ofBits .f32 0x00800000#32 = (((2 : ℝ) ^ (-126 : ℤ) : ℝ) : EReal) :=
  ofBits_pow 1 (by decide) (by decide)

theorem ofBits_big : Ideal.ofBits .f32 0x7E800000#32 = (((2 : ℝ) ^ (126 : ℤ) : ℝ) : EReal) :=
  ofBits_pow 253 (by decide) (by decide)

theorem ofBits_two : Ideal.ofBits .f32 0x40000000#32 = ((2 : ℝ) : EReal) := by
  have := ofBits_pow 128 (by decide) (by decide)
  simpa using this

/-- The reference's exponent outside the normal range. -/
theorem expLog_out {t : EReal} (h : ¬ ((((2 : ℝ) ^ (-126 : ℤ) : ℝ) : EReal) ≤ t ∧ t < (((2 : ℝ) ^ (126 : ℤ) : ℝ) : EReal))) :
    expLog t = 0 := by
  rw [expLog, ofBits_min, ofBits_big]
  rcases not_and_or.1 h with h | h
  · rw [decide_eq_false h]; simp [IntOp.andi, Scalar.select]
  · rw [decide_eq_false h]; simp [IntOp.andi, Scalar.select]

/-- The reference's exponent in the normal range. -/
theorem expLog_in {r : ℝ} (h1 : (2 : ℝ) ^ (-126 : ℤ) ≤ r) (h2 : r < (2 : ℝ) ^ (126 : ℤ)) :
    expLog (r : EReal) = ((ilog r + 1 : ℤ) : ℝ) := by
  have hr : 0 < r := lt_of_lt_of_le (by positivity) h1
  have hl : Real.log 2 ≠ 0 := (Real.log_pos (by norm_num)).ne'
  rw [expLog, ofBits_min, ofBits_big, ofBits_two, decide_eq_true (EReal.coe_le_coe_iff.2 h1),
    decide_eq_true (EReal.coe_lt_coe_iff.2 h2)]
  have e : Ideal.div (Ideal.log (r : EReal)) (Ideal.log ((2 : ℝ) : EReal)) = ((Real.log r / Real.log 2 : ℝ) : EReal) := by
    show Ideal.div (if r ≤ 0 then ⊥ else (Real.log r : EReal)) (if (2 : ℝ) ≤ 0 then ⊥ else (Real.log 2 : EReal)) = _
    rw [if_neg (not_le.2 hr), if_neg (by norm_num), Ideal.div, if_neg (by exact_mod_cast hl), ← EReal.coe_inv,
      ← EReal.coe_mul, div_eq_mul_inv]
  rw [e, Ideal.liftRound_coe]
  simp [ilog, IntOp.andi, Scalar.select]

/-- Both exponents of a non-negative `t` are one integer, at most 126 in size. -/
theorem exp_agree (t : EReal) (ht : 0 ≤ t) : ∃ n : ℤ, -126 ≤ n ∧ n ≤ 126 ∧ expField t = BitVec.ofInt 32 n
    ∧ expLog t = ((n : ℝ) : EReal) := by
  induction t with
  | bot => simp at ht
  | top =>
    refine ⟨0, by norm_num, by norm_num, ?_, ?_⟩
    · rw [expField_of ⊤ 255 (by norm_num) field_top]; norm_num
    · rw [expLog_out (by simp)]; simp
  | coe r =>
    have hr : 0 ≤ r := by exact_mod_cast ht
    by_cases h1 : r < (2 : ℝ) ^ (-126 : ℤ)
    · refine ⟨0, by norm_num, by norm_num, ?_, ?_⟩
      · rw [expField_of _ 0 (by norm_num) (field_small r hr h1)]; norm_num
      · rw [expLog_out (fun h => absurd (EReal.coe_le_coe_iff.1 h.1) (not_le.2 h1))]; simp
    have h1' := not_lt.1 h1
    have hr0 : 0 < r := lt_of_lt_of_le (by positivity) h1'
    have hL : -126 ≤ ilog r := (zpow_le hr0 _).1 h1'
    have hf := expField_of _ _ (by omega) (field_real r hr0 hL)
    by_cases h2 : r < (2 : ℝ) ^ (126 : ℤ)
    · have hU : ilog r < 126 := not_le.1 fun h => absurd ((zpow_le hr0 126).2 h) (not_le.2 h2)
      refine ⟨ilog r + 1, by omega, by omega, ?_, expLog_in h1' h2⟩
      rw [hf, if_pos (by omega)]; congr 1; omega
    · have hU : 126 ≤ ilog r := (zpow_le hr0 126).1 (not_lt.1 h2)
      refine ⟨0, by norm_num, by norm_num, ?_, ?_⟩
      · rw [hf, if_neg (by omega)]
      · rw [expLog_out (fun h => absurd (EReal.coe_lt_coe_iff.1 h.2) h2)]; simp

/-! ## The powers of two -/

/-- The kernel's power of two of exponent `e`: the float whose exponent field is `e + 127`. -/
def powBits (e : BitVec 32) : EReal :=
  Ideal.ofBits .f32 (IntOp.shli ArithUnit.vector (IntOp.addi e 127#32) 23#32)

theorem powBits_eq (n : ℤ) (h1 : -126 ≤ n) (h2 : n ≤ 126) : powBits (BitVec.ofInt 32 n) = Ideal.exp2 ((n : ℝ) : EReal) := by
  have e : IntOp.addi (BitVec.ofInt 32 n) 127#32 = BitVec.ofNat 32 (n + 127).toNat := by
    show BitVec.ofInt 32 n + 127#32 = _
    apply BitVec.eq_of_toNat_eq
    simp; omega
  rw [powBits, shl23, e]
  have := ofBits_pow ⟨(n + 127).toNat, by omega⟩ (by show (n + 127).toNat ≠ 0; omega) (by show (n + 127).toNat ≠ 255; omega)
  refine this.trans ?_
  show _ = ((Real.rpow 2 (n : ℝ) : ℝ) : EReal)
  congr 1
  show (2 : ℝ) ^ (((n + 127).toNat : ℤ) - 127) = (2 : ℝ) ^ (n : ℝ)
  rw [Real.rpow_intCast]; congr 1; omega

/-! ## The two scales of a row -/

/-- The kernel's exponent of a row of maximum `a`. -/
def kExp (a : EReal) : BitVec 32 :=
  Scalar.select (BitVec.ofBool (decide (a = 0))) 0#32 (expField (a * Ideal.ofBits .f32 0x3B124925#32))

/-- The reference's exponent of a row of maximum `a`. -/
def rExp (a : EReal) : EReal :=
  Scalar.select (BitVec.ofBool (decide (a = 0))) 0 (expLog (a * Ideal.ofBits .f32 0x3B124925#32))

/-- The constant `1/448` as rounded to binary32 is positive. -/
theorem ofBits_inv448 : (0 : EReal) ≤ Ideal.ofBits .f32 0x3B124925#32 := by
  simp [Ideal.ofBits, Ideal.ieee, -EReal.coe_mul]

theorem exps (a : EReal) (ha : 0 ≤ a) : ∃ n : ℤ, -126 ≤ n ∧ n ≤ 126 ∧ kExp a = BitVec.ofInt 32 n
    ∧ rExp a = ((n : ℝ) : EReal) := by
  by_cases h : a = 0
  · exact ⟨0, by norm_num, by norm_num, by simp [kExp, h, Scalar.select], by simp [rExp, h, Scalar.select]⟩
  · obtain ⟨n, h1, h2, h3, h4⟩ := exp_agree _ (EReal.mul_nonneg ha ofBits_inv448)
    exact ⟨n, h1, h2, by simp [kExp, h, Scalar.select, h3], by simp [rExp, h, Scalar.select, h4]⟩

/-- The scale of a row: the kernel's bits are the reference's `exp2`. -/
theorem scale_agree (a : EReal) (ha : 0 ≤ a) : powBits (kExp a) = Ideal.exp2 (rExp a) := by
  obtain ⟨n, h1, h2, h3, h4⟩ := exps a ha
  rw [h3, h4, powBits_eq n h1 h2]

/-- The inverse scale of a row. -/
theorem inv_agree (a : EReal) (ha : 0 ≤ a) : powBits (IntOp.subi 0#32 (kExp a)) = Ideal.exp2 (0 - rExp a) := by
  obtain ⟨n, h1, h2, h3, h4⟩ := exps a ha
  have e : IntOp.subi 0#32 (BitVec.ofInt 32 n) = BitVec.ofInt 32 (-n) := by
    show 0#32 - BitVec.ofInt 32 n = _
    rw [BitVec.ofInt_neg]; simp
  rw [h3, h4, e, powBits_eq (-n) (by omega) (by omega)]
  congr 1
  push_cast
  simp

end Requant

end
-- ==== Proof.Lanes.lean ====
/- The running maximum of one row, kept in 128 lanes.

   A row of 8192 values comes in 16 pieces of 512. Each piece is cut in four slices of 128, and lane `l` of the
   running maximum takes the magnitudes of the `l`-th value of every slice. What matters afterwards is only the
   largest lane, and `lanesUpTo_le` says what that is: a number bounds all lanes exactly when it is not negative
   and bounds every magnitude of the row. -/
module

public import Idealize.ShloMosaic.Lib.Pointwise

@[expose] public section

open Idealize.ShloMosaic

noncomputable section

namespace Requant

/-- The magnitude of a value: `max x (-x)`. -/
def mag (x : EReal) : EReal := FloatOps.absf (F := Ideal) (φ := .f32) x

theorem mag_eq (x : EReal) : mag x = max x (-x) := rfl

/-- A magnitude is not negative. -/
theorem mag_nonneg (x : EReal) : 0 ≤ mag x := by
  rw [mag_eq]
  rcases le_total 0 x with h | h
  · exact h.trans (le_max_left _ _)
  · exact (EReal.neg_nonneg.mpr h).trans (le_max_right _ _)

/-- One piece of 512 values taken into the lanes. -/
def laneMax (A : Fin 128 → EReal) (Y : Fin 512 → EReal) (l : Fin 128) : EReal :=
  max (max (max (max (A l) (mag (Y ⟨l.1, by omega⟩))) (mag (Y ⟨128 + l.1, by omega⟩))) (mag (Y ⟨256 + l.1, by omega⟩)))
    (mag (Y ⟨384 + l.1, by omega⟩))

/-- A bound of the lanes after a piece is a bound of the lanes before it and of the piece. -/
theorem laneMax_le (A : Fin 128 → EReal) (Y : Fin 512 → EReal) (b : EReal) :
    (∀ l, laneMax A Y l ≤ b) ↔ (∀ l, A l ≤ b) ∧ ∀ q, mag (Y q) ≤ b := by
  simp only [laneMax, max_le_iff]
  refine ⟨fun h => ⟨fun l => (h l).1.1.1.1, fun q => ?_⟩, fun h l => ⟨⟨⟨⟨h.1 l, h.2 _⟩, h.2 _⟩, h.2 _⟩, h.2 _⟩⟩
  have hq := q.isLt
  have key := h ⟨q.1 % 128, Nat.mod_lt _ (by norm_num)⟩
  have cases4 : q.1 / 128 = 0 ∨ q.1 / 128 = 1 ∨ q.1 / 128 = 2 ∨ q.1 / 128 = 3 := by omega
  rcases cases4 with h0 | h0 | h0 | h0
  · have e : q = ⟨q.1 % 128, by omega⟩ := Fin.ext (by simp only; omega)
    rw [e]; exact key.1.1.1.2
  · have e : q = ⟨128 + q.1 % 128, by omega⟩ := Fin.ext (by simp only; omega)
    rw [e]; exact key.1.1.2
  · have e : q = ⟨256 + q.1 % 128, by omega⟩ := Fin.ext (by simp only; omega)
    rw [e]; exact key.1.2
  · have e : q = ⟨384 + q.1 % 128, by omega⟩ := Fin.ext (by simp only; omega)
    rw [e]; exact key.2

/-- The lanes after the first `n` pieces of the row `Y`. -/
def lanesUpTo (Y : ℕ → EReal) : ℕ → Fin 128 → EReal
  | 0 => fun _ => Ideal.ofBits .f32 0#32
  | n + 1 => laneMax (lanesUpTo Y n) fun q => Y (512 * n + q.1)

theorem lanesUpTo_succ (Y : ℕ → EReal) (n : ℕ) :
    lanesUpTo Y (n + 1) = laneMax (lanesUpTo Y n) fun q => Y (512 * n + q.1) := rfl

/-- What bounds the lanes after `n` pieces. -/
theorem lanesUpTo_le (Y : ℕ → EReal) (b : EReal) (n : ℕ) :
    (∀ l, lanesUpTo Y n l ≤ b) ↔ 0 ≤ b ∧ ∀ k, k < 512 * n → mag (Y k) ≤ b := by
  induction n with
  | zero =>
    have z : Ideal.ofBits .f32 0#32 = 0 := by simp [Ideal.ofBits, Ideal.ieee]
    simp [lanesUpTo, z]
  | succ n ih =>
    rw [lanesUpTo_succ, laneMax_le, ih, and_assoc]
    refine and_congr_right fun _ => ⟨fun h k hk => ?_, fun h => ⟨fun k hk => h k (by omega), fun q => h _ (by omega)⟩⟩
    rcases lt_or_ge k (512 * n) with hlt | hge
    · exact h.1 k hlt
    · have := h.2 ⟨k - 512 * n, by omega⟩
      rwa [show 512 * n + (k - 512 * n) = k by omega] at this

end Requant
-- ==== Proof.Row.lean ====
/- The mathematics of one row, as both programs compute it.

   `rowOf` is the row of the scaled product, `rowMag` its largest magnitude, `scaleAt` the power of two the row is
   divided by and `codeAt` one value of the row, divided by it and clipped. -/
module

public import proofs.«01_k».proof.Proof.Pow2
public import proofs.«01_k».proof.Proof.Lanes

@[expose] public section

open Idealize.ShloMosaic

noncomputable section

namespace Requant

/-- One row of the product: the row `X` of the activations with its scale `s`, all weights `W` with their scales. -/
def rowOf (X : Fin 4608 → EReal) (s : EReal) (W : Fin 4608 → Fin 8192 → EReal) (ws : Fin 8192 → EReal) (c : Fin 8192) :
    EReal :=
  (∑ x, X x * W x c) * s * ws c

/-- The largest magnitude of a row. -/
def rowMag (Y : Fin 8192 → EReal) : EReal := Finset.univ.sup fun c => mag (Y c)

theorem rowMag_le (Y : Fin 8192 → EReal) (b : EReal) : rowMag Y ≤ b ↔ ∀ c, mag (Y c) ≤ b := by
  simp [rowMag, Finset.sup_le_iff]

theorem rowMag_nonneg (Y : Fin 8192 → EReal) : 0 ≤ rowMag Y :=
  (mag_nonneg (Y 0)).trans ((rowMag_le Y _).mp le_rfl 0)

/-- The scale of a row. -/
def scaleAt (Y : Fin 8192 → EReal) : EReal := Ideal.exp2 (rExp (rowMag Y))

/-- One code of a row. -/
def codeAt (Y : Fin 8192 → EReal) (c : Fin 8192) : EReal :=
  min (Ideal.ofBits .f32 0x43E00000#32) (max (Ideal.ofBits .f32 0xC3E00000#32) (Y c * Ideal.exp2 (0 - rExp (rowMag Y))))

/-- A row as a function of every natural number, zero past its end. -/
def past (Y : Fin 8192 → EReal) (k : ℕ) : EReal := if h : k < 8192 then Y ⟨k, h⟩ else 0

theorem past_of_lt (Y : Fin 8192 → EReal) {k : ℕ} (h : k < 8192) : past Y k = Y ⟨k, h⟩ := dif_pos h

/-- The largest lane after all sixteen pieces is the largest magnitude of the row. -/
theorem lanesUpTo_past (Y : Fin 8192 → EReal) (b : EReal) : (∀ l, lanesUpTo (past Y) 16 l ≤ b) ↔ rowMag Y ≤ b := by
  rw [lanesUpTo_le, rowMag_le]
  refine ⟨fun h c => ?_, fun h => ⟨(mag_nonneg _).trans (h 0), fun k hk => ?_⟩⟩
  · have := h.2 c.1 (by omega)
    rwa [past_of_lt Y c.2] at this
  · rw [past_of_lt Y (by omega)]
    exact h _

end Requant
-- ==== Proof.Chunks.lean ====
/- What the kernel computes from one block of 256 rows, one piece of 512 columns after another, read at an index.

   `chunk` is one value of a piece: the sum over the contracted dimension, times the scale of the row, times the
   scale of the column. Every stored piece of the product is a `chunk` (`y0` … `y15`), and the running maximum
   goes through `laneMax` once per piece (`lanes3` … `lanes14`). -/
module

public import proofs.«01_k».proof.Proof.Gen.KernelIdeal.Skeleton
public import proofs.«01_k».proof.Proof.Lanes
public import Idealize.ShloMosaic.Lib.Pipeline.ValueKit

@[expose] public section

set_option maxRecDepth 16384

open Idealize.ShloMosaic Cert.KernelIdeal Cert.KernelIdeal.Gen

noncomputable section

namespace Requant

variable (X : Vec Ideal S256x4608 .fp8e4m3) (S : Vec Ideal S256x1 .f32)

/-- Row `r`, column `q` of one piece: the product with the piece `w` of the weights, scaled. -/
def chunk (w : Vec Ideal S4608x512 .fp8e4m3) (s : Vec Ideal S1x512 .f32) (r : Fin 256) (q : Fin 512) : EReal :=
  (∑ x : Fin 4608, X (ix2 r x) * w (ix2 x q)) * S (ix2 r 0) * s (ix2 0 q)

section
variable (w w' w'' w''' v : Vec Ideal S4608x512 .fp8e4m3) (s s' s'' s''' t : Vec Ideal S1x512 .f32)
  (A : FVec Ideal S256x128 .f32) (r : Fin 256) (q : Fin 512)

/-! ### The stored pieces of the product -/

theorem y0 : k0_pay7 X S w s (ix2 r q) = chunk X S w s r q := by
  pointwise [k0_pay7, k0_pay6, k0_pay5, k0_pay4]; rfl
theorem y1 : k0_pay9 X S w s (ix2 r q) = chunk X S w s r q := by
  pointwise [k0_pay9, k0_pay8, k0_pay5, k0_pay4]; rfl
theorem y2 : k0_pay14 (k0_pay4 X) (k0_pay5 S) w s (ix2 r q) = chunk X S w s r q := by
  pointwise [k0_pay14, k0_pay13, k0_pay5, k0_pay4]; rfl
theorem y3 : k0_pay16 (k0_pay4 X) (k0_pay5 S) w s (ix2 r q) = chunk X S w s r q := by
  pointwise [k0_pay16, k0_pay15, k0_pay5, k0_pay4]; rfl
theorem y4 : k0_pay19 (k0_pay4 X) (k0_pay5 S) w s (ix2 r q) = chunk X S w s r q := by
  pointwise [k0_pay19, k0_pay18, k0_pay5, k0_pay4]; rfl
theorem y5 : k0_pay21 (k0_pay4 X) (k0_pay5 S) w s (ix2 r q) = chunk X S w s r q := by
  pointwise [k0_pay21, k0_pay20, k0_pay5, k0_pay4]; rfl
theorem y6 : k0_pay25 (k0_pay23 (k0_pay4 X) (k0_pay5 S) w) s (ix2 r q) = chunk X S w s r q := by
  pointwise [k0_pay25, k0_pay24, k0_pay23, k0_pay5, k0_pay4]; rfl
theorem y7 : k0_pay27 (k0_pay4 X) (k0_pay5 S) w s (ix2 r q) = chunk X S w s r q := by
  pointwise [k0_pay27, k0_pay26, k0_pay5, k0_pay4]; rfl
theorem y8 : k0_pay30 (k0_pay29 (k0_pay4 X) (k0_pay5 S) w s) (ix2 r q) = chunk X S w s r q := by
  pointwise [k0_pay30, k0_pay29, k0_pay5, k0_pay4]; rfl
theorem y9 : k0_pay32 (k0_pay4 X) (k0_pay5 S) w s (ix2 r q) = chunk X S w s r q := by
  pointwise [k0_pay32, k0_pay31, k0_pay5, k0_pay4]; rfl
theorem y10 : k0_pay35 (k0_pay4 X) (k0_pay5 S) w s (ix2 r q) = chunk X S w s r q := by
  pointwise [k0_pay35, k0_pay34, k0_pay5, k0_pay4]; rfl
theorem y11 : k0_pay38 (k0_pay4 X) (k0_pay5 S) w s (ix2 r q) = chunk X S w s r q := by
  pointwise [k0_pay38, k0_pay37, k0_pay5, k0_pay4]; rfl
theorem y12 : k0_pay40 (k0_pay4 X) (k0_pay5 S) w s (ix2 r q) = chunk X S w s r q := by
  pointwise [k0_pay40, k0_pay39, k0_pay5, k0_pay4]; rfl
theorem y13 : k0_pay44 (k0_pay4 X) (k0_pay5 S) w s (ix2 r q) = chunk X S w s r q := by
  pointwise [k0_pay44, k0_pay43, k0_pay5, k0_pay4]; rfl
theorem y14 : k0_pay46 (k0_pay4 X) (k0_pay5 S) w s (ix2 r q) = chunk X S w s r q := by
  pointwise [k0_pay46, k0_pay45, k0_pay5, k0_pay4]; rfl
theorem y15 : k0_pay49 (k0_pay4 X) (k0_pay5 S) w (constant S256x512 .f32 0#32) s (ix2 r q) = chunk X S w s r q := by
  pointwise [k0_pay49, k0_pay48, k0_pay5, k0_pay4]; rfl

/-! ### The running maximum -/

/-- The lanes after the first four pieces. -/
theorem lanes3 : (fun l => k0_pay17 (k0_pay4 X) (k0_pay5 S) (k0_pay10 X S w' s') (k0_pay11 X S w s w' s') (k0_pay12 X S w' s')
      w'' s'' w''' s''' (ix2 r l))
    = laneMax (laneMax (laneMax (laneMax (fun _ => Ideal.ofBits .f32 0#32) (chunk X S w s r)) (chunk X S w' s' r))
        (chunk X S w'' s'' r)) (chunk X S w''' s''' r) := by
  funext l
  pointwise [k0_pay17, k0_pay15, k0_pay13, k0_pay12, k0_pay11, k0_pay10, k0_pay8, k0_pay6, k0_pay5, k0_pay4]
  rfl

/-- Two more pieces. -/
theorem lanes5 : (fun l => k0_pay22 (k0_pay4 X) (k0_pay5 S) A w s w' s' (ix2 r l))
    = laneMax (laneMax (fun l => A (ix2 r l)) (chunk X S w s r)) (chunk X S w' s' r) := by
  funext l
  pointwise [k0_pay22, k0_pay20, k0_pay18, k0_pay5, k0_pay4]
  rfl

theorem lanes7 : (fun l => k0_pay28 (k0_pay4 X) (k0_pay5 S) A (k0_pay23 (k0_pay4 X) (k0_pay5 S) w) s w' s' (ix2 r l))
    = laneMax (laneMax (fun l => A (ix2 r l)) (chunk X S w s r)) (chunk X S w' s' r) := by
  funext l
  pointwise [k0_pay28, k0_pay26, k0_pay24, k0_pay23, k0_pay5, k0_pay4]
  rfl

theorem lanes9 : (fun l => k0_pay33 (k0_pay4 X) (k0_pay5 S) A (k0_pay29 (k0_pay4 X) (k0_pay5 S) w s) w' s' (ix2 r l))
    = laneMax (laneMax (fun l => A (ix2 r l)) (chunk X S w s r)) (chunk X S w' s' r) := by
  funext l
  pointwise [k0_pay33, k0_pay31, k0_pay29, k0_pay5, k0_pay4]
  rfl

/-- Five more pieces: the third of them is finished by the second of the two computations. -/
theorem lanes14 : (fun l => k0_pay47 (k0_pay4 X) (k0_pay5 S) (k0_pay41 (k0_pay4 X) (k0_pay5 S) w'' s'')
      (k0_pay42 (k0_pay4 X) (k0_pay5 S) A (k0_pay36 (k0_pay4 X) (k0_pay5 S) w s) w' s' w'' s'') w''' s''' v t (ix2 r l))
    = laneMax (laneMax (laneMax (laneMax (laneMax (fun l => A (ix2 r l)) (chunk X S w s r)) (chunk X S w' s' r))
        (chunk X S w'' s'' r)) (chunk X S w''' s''' r)) (chunk X S v t r) := by
  funext l
  pointwise [k0_pay47, k0_pay45, k0_pay43, k0_pay42, k0_pay41, k0_pay39, k0_pay37, k0_pay36, k0_pay34, k0_pay5, k0_pay4]
  rfl

/-- The last piece and the maximum across the lanes: a bound of the row's result is a bound of all lanes. -/
theorem rowMax_le (b : EReal) :
    k0_pay50 (k0_pay4 X) (k0_pay5 S) A w (constant S256x512 .f32 0#32) s (ix2 r 0) ≤ b
      ↔ ∀ l, laneMax (fun l => A (ix2 r l)) (chunk X S w s r) l ≤ b := by
  pointwise [k0_pay50, k0_pay48, k0_pay5, k0_pay4]
  rw [Finset.fold_max_le]
  have bot : Ideal.ofBits .f32 4286578688#32 = ⊥ := by simp [Ideal.ofBits, Ideal.ieee]
  rw [bot]
  exact ⟨fun h l => h.2 l (Finset.mem_univ l), fun h => ⟨bot_le, fun l _ => h l⟩⟩

end

end Requant
-- ==== Proof.Block.lean ====
/- One block of 256 rows: what the kernel's running maximum, scale and inverse scale are for each row.

   The kernel reads the weights and their scales sixteen times, 512 columns at a time. `chunk_piece` says that the
   values of the piece at column `o` are the values of the whole row from column `o` on; with it the chain of
   running maxima is `lanesUpTo` and the row's result is `rowMag` (`block_max`). -/
module

public import proofs.«01_k».proof.Proof.Row
public import proofs.«01_k».proof.Proof.Chunks

@[expose] public section

set_option maxRecDepth 16384

open Idealize.ShloMosaic Cert.KernelIdeal Cert.KernelIdeal.Gen

noncomputable section

namespace Requant

variable (x0 : Vec Ideal S256x4608 .fp8e4m3) (x1 : Vec Ideal S256x1 .f32) (x2 : Vec Ideal S4608x8192 .fp8e4m3)
  (x3 : Vec Ideal S1x8192 .f32)

/-- Row `r` of a block. -/
def blockRow (r : Fin 256) : Fin 8192 → EReal :=
  rowOf (fun k => x0 (ix2 r k)) (x1 (ix2 r 0)) (fun k c => x2 (ix2 k c)) fun c => x3 (ix2 0 c)

/-- The 512 columns of the weights from column `o` on. -/
abbrev wPiece (o : ℕ) (h : ∀ a, (![0, o] : Fin 2 → ℕ) a + (![4608, 512] : Fin 2 → ℕ) a ≤ S4608x8192.size a) :
    Vec Ideal S4608x512 .fp8e4m3 :=
  View.ld x2 (Rect.unit (s := S4608x8192) ![0, o] ![4608, 512] h)

/-- The 512 column scales from column `o` on. -/
abbrev sPiece (o : ℕ) (h : ∀ a, (![0, o] : Fin 2 → ℕ) a + (![1, 512] : Fin 2 → ℕ) a ≤ S1x8192.size a) :
    Vec Ideal S1x512 .f32 :=
  View.ld x3 (Rect.unit (s := S1x8192) ![0, o] ![1, 512] h)

/-- The piece at column `o` holds the row's values from column `o` on. -/
theorem chunk_piece (o : ℕ) (hw hs) (r : Fin 256) :
    chunk x0 x1 (wPiece x2 o hw) (sPiece x3 o hs) r = fun q => past (blockRow x0 x1 x2 x3 r) (o + q.1) := by
  funext q
  have ho : o + 512 ≤ 8192 := hw 1
  have hc : o + q.1 < 8192 := by omega
  have ew : ∀ x : Fin 4608, wPiece x2 o hw (ix2 x q) = x2 (ix2 x ⟨o + q.1, hc⟩) := fun x =>
    View.ld_unit_apply_of x2 _ _ hw _ _ (fun a => by fin_cases a <;> simp [ix2])
  have es : sPiece x3 o hs (ix2 0 q) = x3 (ix2 0 ⟨o + q.1, hc⟩) :=
    View.ld_unit_apply_of x3 _ _ hs _ _ (fun a => by fin_cases a <;> simp [ix2])
  rw [past_of_lt _ hc]
  simp only [chunk, blockRow, rowOf, ew, es]

/-- The running maximum of the block before the last piece. -/
abbrev blockLanes : FVec Ideal S256x128 .f32 :=
  k0_pay47 (k0_pay4 x0) (k0_pay5 x1)
    (k0_pay41 (k0_pay4 x0) (k0_pay5 x1) (wPiece x2 6144 inb_S4608x8192_S4608x512_0_6144) (sPiece x3 6144 inb_S1x8192_S1x512_0_6144))
    (k0_pay42 (k0_pay4 x0) (k0_pay5 x1)
      (k0_pay33 (k0_pay4 x0) (k0_pay5 x1)
        (k0_pay28 (k0_pay4 x0) (k0_pay5 x1)
          (k0_pay22 (k0_pay4 x0) (k0_pay5 x1)
            (k0_pay17 (k0_pay4 x0) (k0_pay5 x1)
              (k0_pay10 x0 x1 (wPiece x2 512 inb_S4608x8192_S4608x512_0_512) (sPiece x3 512 inb_S1x8192_S1x512_0_512))
              (k0_pay11 x0 x1 (wPiece x2 0 inb_S4608x8192_S4608x512_0_0) (sPiece x3 0 inb_S1x8192_S1x512_0_0)
                (wPiece x2 512 inb_S4608x8192_S4608x512_0_512) (sPiece x3 512 inb_S1x8192_S1x512_0_512))
              (k0_pay12 x0 x1 (wPiece x2 512 inb_S4608x8192_S4608x512_0_512) (sPiece x3 512 inb_S1x8192_S1x512_0_512))
              (wPiece x2 1024 inb_S4608x8192_S4608x512_0_1024) (sPiece x3 1024 inb_S1x8192_S1x512_0_1024)
              (wPiece x2 1536 inb_S4608x8192_S4608x512_0_1536) (sPiece x3 1536 inb_S1x8192_S1x512_0_1536))
            (wPiece x2 2048 inb_S4608x8192_S4608x512_0_2048) (sPiece x3 2048 inb_S1x8192_S1x512_0_2048)
            (wPiece x2 2560 inb_S4608x8192_S4608x512_0_2560) (sPiece x3 2560 inb_S1x8192_S1x512_0_2560))
          (k0_pay23 (k0_pay4 x0) (k0_pay5 x1) (wPiece x2 3072 inb_S4608x8192_S4608x512_0_3072))
          (sPiece x3 3072 inb_S1x8192_S1x512_0_3072)
          (wPiece x2 3584 inb_S4608x8192_S4608x512_0_3584) (sPiece x3 3584 inb_S1x8192_S1x512_0_3584))
        (k0_pay29 (k0_pay4 x0) (k0_pay5 x1) (wPiece x2 4096 inb_S4608x8192_S4608x512_0_4096)
          (sPiece x3 4096 inb_S1x8192_S1x512_0_4096))
        (wPiece x2 4608 inb_S4608x8192_S4608x512_0_4608) (sPiece x3 4608 inb_S1x8192_S1x512_0_4608))
      (k0_pay36 (k0_pay4 x0) (k0_pay5 x1) (wPiece x2 5120 inb_S4608x8192_S4608x512_0_5120)
        (sPiece x3 5120 inb_S1x8192_S1x512_0_5120))
      (wPiece x2 5632 inb_S4608x8192_S4608x512_0_5632) (sPiece x3 5632 inb_S1x8192_S1x512_0_5632)
      (wPiece x2 6144 inb_S4608x8192_S4608x512_0_6144) (sPiece x3 6144 inb_S1x8192_S1x512_0_6144))
    (wPiece x2 6656 inb_S4608x8192_S4608x512_0_6656) (sPiece x3 6656 inb_S1x8192_S1x512_0_6656)
    (wPiece x2 7168 inb_S4608x8192_S4608x512_0_7168) (sPiece x3 7168 inb_S1x8192_S1x512_0_7168)

/-- It is the running maximum of fifteen pieces. -/
theorem blockLanes_eq (r : Fin 256) :
    (fun l => blockLanes x0 x1 x2 x3 (ix2 r l)) = lanesUpTo (past (blockRow x0 x1 x2 x3 r)) 15 := by
  rw [lanes14, lanes9, lanes7, lanes5, lanes3]
  simp only [chunk_piece]
  rfl

/-- The row's maximum, as the kernel leaves it after the last piece. -/
abbrev blockMax : FVec Ideal S256x1 .f32 :=
  k0_pay50 (k0_pay4 x0) (k0_pay5 x1) (blockLanes x0 x1 x2 x3) (wPiece x2 7680 inb_S4608x8192_S4608x512_0_7680)
    (constant S256x512 .f32 0#32) (sPiece x3 7680 inb_S1x8192_S1x512_0_7680)

theorem block_max (r : Fin 256) : blockMax x0 x1 x2 x3 (ix2 r 0) = rowMag (blockRow x0 x1 x2 x3 r) := by
  refine eq_of_forall_ge_iff fun b => ?_
  rw [rowMax_le, blockLanes_eq, chunk_piece, ← lanesUpTo_past]
  exact Iff.rfl

/-- The exponent word of the row, before the test for zero. -/
abbrev blockExp : IVec S256x1 32 :=
  k0_pay51 (k0_pay4 x0) (k0_pay5 x1) (blockLanes x0 x1 x2 x3) (wPiece x2 7680 inb_S4608x8192_S4608x512_0_7680)
    (constant S256x512 .f32 0#32) (sPiece x3 7680 inb_S1x8192_S1x512_0_7680)

/-- Whether the row's maximum is zero. -/
abbrev blockZero : IVec S256x1 1 :=
  k0_pay52 (k0_pay4 x0) (k0_pay5 x1) (blockLanes x0 x1 x2 x3) (wPiece x2 7680 inb_S4608x8192_S4608x512_0_7680)
    (constant S256x512 .f32 0#32) (sPiece x3 7680 inb_S1x8192_S1x512_0_7680)

/-- The test for zero as a case distinction. -/
theorem kExp_eq_ite (a : EReal) : kExp a = if a = 0 then 0#32 else expField (a * Ideal.ofBits .f32 0x3B124925#32) := by
  unfold kExp
  by_cases h : a = 0 <;> simp [h, Scalar.select]

theorem block_exp (r : Fin 256) :
    Scalar.select (blockZero x0 x1 x2 x3 (ix2 r 0)) 0#32 (blockExp x0 x1 x2 x3 (ix2 r 0))
      = kExp (rowMag (blockRow x0 x1 x2 x3 r)) := by
  rw [← block_max]
  unfold blockZero blockExp blockMax
  generalize blockLanes x0 x1 x2 x3 = A
  generalize wPiece x2 7680 inb_S4608x8192_S4608x512_0_7680 = w
  generalize sPiece x3 7680 inb_S1x8192_S1x512_0_7680 = s
  pointwise [k0_pay51, k0_pay52]
  rw [kExp_eq_ite]
  unfold expField field
  rfl

/-- The stored scale of the row. -/
theorem block_scale (r : Fin 256) :
    k0_pay54 (F := Ideal) (blockExp x0 x1 x2 x3) (blockZero x0 x1 x2 x3) (ix2 r 0) = scaleAt (blockRow x0 x1 x2 x3 r) := by
  rw [scaleAt, ← scale_agree _ (rowMag_nonneg _), ← block_exp]
  generalize blockExp x0 x1 x2 x3 = e
  generalize blockZero x0 x1 x2 x3 = z
  pointwise [k0_pay54, k0_pay53]
  rfl

/-- The inverse scale of the row. -/
theorem block_inv (r : Fin 256) :
    k0_pay55 (F := Ideal) (blockExp x0 x1 x2 x3) (blockZero x0 x1 x2 x3) (ix2 r 0)
      = Ideal.exp2 (0 - rExp (rowMag (blockRow x0 x1 x2 x3 r))) := by
  rw [← inv_agree _ (rowMag_nonneg _), ← block_exp]
  generalize blockExp x0 x1 x2 x3 = e
  generalize blockZero x0 x1 x2 x3 = z
  pointwise [k0_pay55, k0_pay53]
  rfl

end Requant
-- ==== Proof.Codes.lean ====
/- The codes of one piece of 512 columns: each stored value is the value read back from the scratch, times the
   inverse scale of its row, clipped to what the format holds. -/
module

public import proofs.«01_k».proof.Proof.Gen.KernelIdeal.Skeleton
public import Idealize.ShloMosaic.Lib.Pipeline.ValueKit
public import Idealize.ShloMosaic.Lib.Pointwise

@[expose] public section

set_option maxRecDepth 16384

open Idealize.ShloMosaic Cert.KernelIdeal Cert.KernelIdeal.Gen

noncomputable section

namespace Requant

/-- A value times an inverse scale, clipped to ±448. -/
def clip (y i : EReal) : EReal :=
  min (Ideal.ofBits .f32 0x43E00000#32) (max (Ideal.ofBits .f32 0xC3E00000#32) (y * i))

variable (e : IVec S256x1 32) (z : IVec S256x1 1) (i : FVec Ideal S256x1 .f32) (y : Vec Ideal S256x512 .f32) (r : Fin 256)
  (q : Fin 512)

theorem code0 : k0_pay56 e z y (ix2 r q) = clip (y (ix2 r q)) (k0_pay55 (F := Ideal) e z (ix2 r 0)) := by
  pointwise [k0_pay56]; rfl
theorem code1 : k0_pay57 e z y (ix2 r q) = clip (y (ix2 r q)) (k0_pay55 (F := Ideal) e z (ix2 r 0)) := by
  pointwise [k0_pay57]; rfl
theorem code2 : k0_pay59 y (k0_pay58 e z) (ix2 r q) = clip (y (ix2 r q)) (k0_pay55 (F := Ideal) e z (ix2 r 0)) := by
  pointwise [k0_pay59, k0_pay58]; rfl
theorem code3 : k0_pay60 i y (ix2 r q) = clip (y (ix2 r q)) (i (ix2 r 0)) := by pointwise [k0_pay60]; rfl
theorem code4 : k0_pay61 i y (ix2 r q) = clip (y (ix2 r q)) (i (ix2 r 0)) := by pointwise [k0_pay61]; rfl
theorem code5 : k0_pay62 i y (ix2 r q) = clip (y (ix2 r q)) (i (ix2 r 0)) := by pointwise [k0_pay62]; rfl
theorem code6 : k0_pay63 i y (ix2 r q) = clip (y (ix2 r q)) (i (ix2 r 0)) := by pointwise [k0_pay63]; rfl
theorem code7 : k0_pay64 i y (ix2 r q) = clip (y (ix2 r q)) (i (ix2 r 0)) := by pointwise [k0_pay64]; rfl
theorem code8 : k0_pay65 i y (ix2 r q) = clip (y (ix2 r q)) (i (ix2 r 0)) := by pointwise [k0_pay65]; rfl
theorem code9 : k0_pay66 i y (ix2 r q) = clip (y (ix2 r q)) (i (ix2 r 0)) := by pointwise [k0_pay66]; rfl
theorem code10 : k0_pay67 i y (ix2 r q) = clip (y (ix2 r q)) (i (ix2 r 0)) := by pointwise [k0_pay67]; rfl
theorem code11 : k0_pay68 i y (ix2 r q) = clip (y (ix2 r q)) (i (ix2 r 0)) := by pointwise [k0_pay68]; rfl
theorem code12 : k0_pay69 i y (ix2 r q) = clip (y (ix2 r q)) (i (ix2 r 0)) := by pointwise [k0_pay69]; rfl
theorem code13 : k0_pay1 (k0_pay70 i y) (Scalar.ofBits .f32 0x43E00000#32) k0_pay71 (ix2 r q) = clip (y (ix2 r q)) (i (ix2 r 0)) := by
  pointwise [k0_pay1, k0_pay70, k0_pay71]; rfl
theorem code14 : k0_pay2 i y (ix2 r q) = clip (y (ix2 r q)) (i (ix2 r 0)) := by pointwise [k0_pay2]; rfl
theorem code15 : k0_pay3 i y (ix2 r q) = clip (y (ix2 r q)) (i (ix2 r 0)) := by pointwise [k0_pay3]; rfl

end Requant
-- ==== Proof.KernelBlocks.lean ====
/- What the kernel writes for one block of 256 rows: the scale of every row (`out_scale`) and every code
   (`out_code`).

   The codes are stored in sixteen pieces of 512 columns, each read back from the scratch that holds the product.
   The proof looks at each stored piece and finds there the values that `codeAt` names. -/
module

public import proofs.«01_k».proof.Proof.Gen.KernelIdeal.Value
public import proofs.«01_k».proof.Proof.Block
public import proofs.«01_k».proof.Proof.Codes
public import Idealize.ShloMosaic.Lib.Pipeline.ReadBack

@[expose] public section

set_option maxRecDepth 16384

open Idealize.ShloMosaic Idealize.ShloMosaic.TcCoe Idealize.SL.Sem
open Cert.KernelIdeal Cert.KernelIdeal.Gen

noncomputable section

namespace Requant

section
variable (x0 : Vec Ideal S256x4608 .fp8e4m3) (x1 : Vec Ideal S256x1 .f32) (x2 : Vec Ideal S4608x8192 .fp8e4m3)
  (x3 : Vec Ideal S1x8192 .f32)

/-- A value of the piece at column `o`, divided and clipped, is the code at its column of the row. -/
theorem clip_piece (o : ℕ) (r a : Fin 256) (k : Fin 8192) (q : Fin 512) (ha : r.1 = a.1) (hk : k.1 = o + q.1) :
    clip (past (blockRow x0 x1 x2 x3 a) (o + q.1))
        (k0_pay55 (F := Ideal) (blockExp x0 x1 x2 x3) (blockZero x0 x1 x2 x3) (ix2 a 0))
      = codeAt (blockRow x0 x1 x2 x3 r) k := by
  obtain rfl := Fin.ext ha
  rw [block_inv, ← hk, past_of_lt _ k.2]
  rfl

variable (c : Dev nD) (i : grid0.Coords) (arg1 : Memref sig .tc .vmem S256x4608 .fp8e4m3) (harg1 : arg1.IsWhole)
  (arg2 : Memref sig .tc .vmem S256x1 .f32) (harg2 : arg2.IsWhole) (arg3 : Memref sig .tc .vmem S4608x8192 .fp8e4m3)
  (harg3 : arg3.IsWhole) (arg4 : Memref sig .tc .vmem S1x8192 .f32) (harg4 : arg4.IsWhole)
  (arg5 : Memref sig .tc .vmem S256x1 .f32) (harg5 : arg5.IsWhole) (arg6 : Memref sig .tc .vmem S256x8192 .fp8e4m3)
  (harg6 : arg6.IsWhole) (arg7 : Memref sig .tc .vmem S256x8192 .f32) (harg7 : arg7.IsWhole)

theorem out_scale (r : Fin 256) :
    out0_A_4 (F := Ideal) c i arg1 harg1 arg2 harg2 arg3 harg3 arg4 harg4 arg5 harg5 arg6 harg6 arg7 harg7 x0 x1 x2 x3 (ix2 r 0)
      = scaleAt (blockRow x0 x1 x2 x3 r) := by
  frame_out
  exact block_scale x0 x1 x2 x3 r

theorem out_code (r : Fin 256) (k : Fin 8192) :
    out0_A_5 (F := Ideal) c i arg1 harg1 arg2 harg2 arg3 harg3 arg4 harg4 arg5 harg5 arg6 harg6 arg7 harg7 x0 x1 x2 x3 (ix2 r k)
      = codeAt (blockRow x0 x1 x2 x3 r) k := by
  frame_open
  simp (disch := decide) only [↓ View.readCov_skip, ↓ View.readCov_cons_toLoadRect, ↓ View.readCov_fill]
  frame_out
  canon_tiles x h
  all_goals obtain ⟨a, q, rfl⟩ : ∃ (a : Fin 256) (q : Fin 512), x = ix2 a q :=
    ⟨x 0, x 1, by funext d; fin_cases d <;> rfl⟩
  all_goals simp only [code0, code1, code2, code3, code4, code5, code6, code7, code8, code9, code10, code11, code12,
    code13, code14, code15, y0, y1, y2, y3, y4, y5, y6, y7, y8, y9, y10, y11, y12, y13, y14, y15, chunk_piece]
  all_goals first
    | exact clip_piece x0 x1 x2 x3 _ r a k q h0 h1
    | exact clip_piece x0 x1 x2 x3 0 r a k q h0 (h1.trans (Nat.zero_add _).symm)

end

end Requant
-- ==== Proof.KernelArrays.lean ====
/- The two arrays the kernel leaves, as functions of the arrays it is launched on.

   Point `t` of the grid writes rows `256 t … 256 t + 255` of both results; the blocks it reads are those rows of
   the activations and of their scales, and all of the weights and of theirs. -/
module

public import proofs.«01_k».proof.Proof.KernelBlocks

@[expose] public section

set_option maxRecDepth 16384

open Idealize.ShloMosaic Idealize.ShloMosaic.TcCoe Idealize.SL.Sem
open Cert.KernelIdeal Cert.KernelIdeal.Gen

noncomputable section

namespace Requant

variable (m : (ℓ : Loc nD τ sig) → Buf (Elt Ideal) ℓ)

/-- Row `R` of the product, from the arrays as the launch finds them. -/
def kernelRow (c : Dev nD) (R : Fin 12288) : Fin 8192 → EReal :=
  rowOf (fun k => (V m c main_v0 : Vec Ideal S12288x4608 .fp8e4m3) (ix2 R k))
    ((V m c main_v1 : Vec Ideal S12288x1 .f32) (ix2 R 0))
    (fun k q => (V m c main_arg2 : Vec Ideal S4608x8192 .fp8e4m3) (ix2 k q))
    fun q => (V m c main_arg3 : Vec Ideal S1x8192 .f32) (ix2 0 q)

/-- Where the windows stand at point `t`: the row windows at block `t`, the weight windows at their one block. -/
theorem idx_all : ∀ t : Fin cfg0.N, (cfg0.win 0).index t = ![t.val, 0] ∧ (cfg0.win 1).index t = ![t.val, 0]
    ∧ (cfg0.win 2).index t = ![0, 0] ∧ (cfg0.win 3).index t = ![0, 0] ∧ (cfg0.win 4).index t = ![t.val, 0]
    ∧ (cfg0.win 5).index t = ![t.val, 0] := by
  decide +kernel

/-- Row `r` of block `t` is row `256 t + r` of the arrays. -/
theorem blockRow_eq (c : Dev nD) (t : Fin cfg0.N) (r : Fin 256) (R : Fin 12288) (h : R.1 = t.1 * 256 + r.1) :
    blockRow (iblk m c 0 t) (iblk m c 1 t) (iblk m c 2 t) (iblk m c 3 t) r = kernelRow m c R := by
  obtain ⟨i0, i1, i2, i3, -, -⟩ := idx_all t
  have e0 : ∀ k : Fin 4608, (iblk m c 0 t : Vec Ideal S256x4608 .fp8e4m3) (ix2 r k)
      = (V m c main_v0 : Vec Ideal S12288x4608 .fp8e4m3) (ix2 R k) := fun k => by
    blk_ext [iblk, i0]
  have e1 : (iblk m c 1 t : Vec Ideal S256x1 .f32) (ix2 r 0) = (V m c main_v1 : Vec Ideal S12288x1 .f32) (ix2 R 0) := by
    blk_ext [iblk, i1]
  have e2 : ∀ (k : Fin 4608) (q : Fin 8192), (iblk m c 2 t : Vec Ideal S4608x8192 .fp8e4m3) (ix2 k q)
      = (V m c main_arg2 : Vec Ideal S4608x8192 .fp8e4m3) (ix2 k q) := fun k q => by
    blk_ext [iblk, i2]
  have e3 : ∀ q : Fin 8192, (iblk m c 3 t : Vec Ideal S1x8192 .f32) (ix2 0 q)
      = (V m c main_arg3 : Vec Ideal S1x8192 .f32) (ix2 0 q) := fun q => by
    blk_ext [iblk, i3]
  unfold blockRow kernelRow
  simp only [e0, e1, e2, e3]

/-- What the body leaves at point `t` for row `r`: its scale. -/
theorem after_scale (c : Dev nD) (t : Fin cfg0.N) (r : Fin 256) (R : Fin 12288) (h : R.1 = t.1 * 256 + r.1) :
    ((dats m 0 c).after 4 t : Vec Ideal S256x1 .f32) (ix2 r 0) = scaleAt (kernelRow m c R) := by
  rw [after0_4, ← blockRow_eq m c t r R h]
  dsimp only [outsAt0]
  exact out_scale _ _ _ _ c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) r

/-- What the body leaves at point `t` for row `r` and column `k`: its code. -/
theorem after_code (c : Dev nD) (t : Fin cfg0.N) (r : Fin 256) (k : Fin 8192) (R : Fin 12288) (h : R.1 = t.1 * 256 + r.1) :
    ((dats m 0 c).after 5 t : Vec Ideal S256x8192 .fp8e4m3) (ix2 r k) = codeAt (kernelRow m c R) k := by
  rw [after0_5, ← blockRow_eq m c t r R h]
  dsimp only [outsAt0]
  exact out_code _ _ _ _ c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) r k

/-- The first result: the scale of every row. -/
theorem kernel_scales (c : Dev nD) :
    (dats m 0 c).arrAt 4 cfg0.N = fun j : S12288x1.Idx => scaleAt (kernelRow m c (j 0)) := by
  refine (dats m 0 c).arrAt_eq_of_covers 4 _ (by decide +kernel) fun t hf y => ?_
  obtain ⟨-, -, -, -, i4, -⟩ := idx_all t
  obtain ⟨r, rfl⟩ : ∃ r : Fin 256, y = ix2 r 0 := ⟨y 0, by
    funext d; fin_cases d <;> [rfl; exact Subsingleton.elim (α := Fin 1) _ _]⟩
  exact after_scale m c t r _ (by blk_simp [i4])

/-- The second result: every code. -/
theorem kernel_codes (c : Dev nD) :
    (dats m 0 c).arrAt 5 cfg0.N = fun j : S12288x8192.Idx => codeAt (kernelRow m c (j 0)) (j 1) := by
  refine (dats m 0 c).arrAt_eq_of_covers 5 _ (by decide +kernel) fun t hf y => ?_
  obtain ⟨-, -, -, -, -, i5⟩ := idx_all t
  obtain ⟨r, k, rfl⟩ : ∃ (r : Fin 256) (k : Fin 8192), y = ix2 r k := ⟨y 0, y 1, by funext d; fin_cases d <;> rfl⟩
  have e : ((cfg0.win 5).blk t).view.emb (ix2 r k) 1 = k := Fin.ext (by blk_simp [i5])
  refine Eq.trans ?_ (congrArg (codeAt _) e.symm)
  exact after_code m c t r k _ (by blk_simp [i5])

end Requant
-- ==== Proof.ReferenceRow.lean ====
/- The reference read row by row: its largest magnitude, its exponent, its scale and its codes.

   The reference takes the maximum over all 8192 columns of the product at once. `refMax_eq` says it is `rowMag` of
   the row; everything after it is pointwise. -/
module

public import proofs.«01_k».proof.Proof.Gen.ReferenceIdeal.Skeleton
public import proofs.«01_k».proof.Proof.Row
public import Idealize.ShloMosaic.Lib.Pipeline.ValueKit

@[expose] public section

set_option maxRecDepth 16384

open Idealize.ShloMosaic Cert.ReferenceIdeal Cert.ReferenceIdeal.Gen

noncomputable section

namespace Requant

/-- The maximum across a row of magnitudes, row `R`. -/
theorem refMax_eq (y : FVec Ideal S12288x8192 .f32) (R : Fin 12288) (h : S12288x8192.Reduces [1] S12288)
    (hφ : FKind.Formats .f32) (hacc : 0xFF800000#32 = FKind.maximumf.neutral .f32 hφ) :
    multiReduction .maximumf [1] S12288 (absf y) 0xFF800000#32 h hφ hacc (ix1 R)
      = rowMag fun k => y (ix2 R k) := by
  rw [multiReduction_maximumf_eq_fold]
  refine eq_of_forall_ge_iff fun b => ?_
  rw [rowMag_le]
  refine (Finset.fold_max_le (β := EReal) b).trans ?_
  have bot : FloatOps.ofBits (F := Ideal) .f32 0xFF800000#32 = (⊥ : EReal) := by
    show Ideal.ofBits .f32 0xFF800000#32 = ⊥
    simp [Ideal.ofBits, Ideal.ieee]
  rw [bot]
  have drop0 : ∀ i : S12288x8192.Idx, (h.drop i 0).1 = (i 0).1 := fun i =>
    h.drop_apply_val_of_eq i 0 0
  refine ⟨fun hb k => hb.2 (ix2 R k) ?_, fun hb => ⟨bot_le, fun i hi => ?_⟩⟩
  · rw [Finset.mem_filter]
    refine ⟨Finset.mem_univ _, funext fun d => ?_⟩
    fin_cases d
    exact Fin.ext (drop0 _)
  · rw [Finset.mem_filter] at hi
    have e : i = ix2 R (i 1) := by
      funext d
      fin_cases d
      · exact Fin.ext ((drop0 i).symm.trans (congrArg Fin.val (congrFun hi.2 0)))
      · rfl
    rw [e]
    exact hb (i 1)

variable (v0 : Vec Ideal S12288x4608 .fp8e4m3) (v2 : Vec Ideal S4608x8192 .fp8e4m3) (v4 : Vec Ideal S12288x1 .f32)
  (v8 : Vec Ideal S1x8192 .f32) (R : Fin 12288) (k : Fin 8192)

/-- Row `R` of the reference's product. -/
def refRow : Fin 8192 → EReal :=
  rowOf (fun k => v0 (ix2 R k)) (v4 (ix2 R 0)) (fun k q => v2 (ix2 k q)) fun q => v8 (ix2 0 q)

theorem ref_y : k0_pay2 v0 v2 v4 v8 (ix2 R k) = refRow v0 v2 v4 v8 R k := by
  pointwise [k0_pay2]
  rfl

/-- The reference's exponent as a function of the row maxima. -/
def expOf (M : FVec Ideal S12288 .f32) : FVec Ideal S12288x1 .f32 :=
  let a : FVec Ideal S12288x1 .f32 := shapeCast S12288x1 M shapeCasts_S12288_S12288x1
  let t : FVec Ideal S12288x1 .f32 := mulf a (broadcast S12288x1 (Scalar.ofBits .f32 0x3B124925#32))
  let e : FVec Ideal S12288x1 .f32 :=
    addf (floor (divf (log t) (log (broadcast S12288x1 (Scalar.ofBits .f32 0x40000000#32)))))
      (broadcast S12288x1 (Scalar.ofBits .f32 0x3F800000#32))
  let normal : IVec S12288x1 1 := andi (cmpf .oge t (broadcast S12288x1 (Scalar.ofBits .f32 0x00800000#32)))
    (cmpf .olt t (broadcast S12288x1 (Scalar.ofBits .f32 0x7E800000#32)))
  select (cmpf .oeq a (broadcast S12288x1 (Scalar.ofBits .f32 0x00000000#32)))
    (broadcast S12288x1 (Scalar.ofBits .f32 0x00000000#32))
    (select normal e (broadcast S12288x1 (Scalar.ofBits .f32 0x00000000#32)))

theorem rExp_eq_ite (a : EReal) : rExp a = if a = 0 then 0 else expLog (a * Ideal.ofBits .f32 0x3B124925#32) := by
  unfold rExp
  by_cases h : a = 0 <;> simp [h, Scalar.select]

theorem expOf_eq (M : FVec Ideal S12288 .f32) : expOf M (ix2 R 0) = rExp (M (ix1 R)) := by
  pointwise [expOf]
  rw [rExp_eq_ite]
  rfl

/-- The row maxima, as the reference takes them. -/
abbrev refMaxima : FVec Ideal S12288 .f32 :=
  multiReduction .maximumf [1] S12288 (absf (k0_pay2 v0 v2 v4 v8)) 0xFF800000#32 reduces_S12288x8192_S12288 (.inl rfl) rfl

theorem refMaxima_eq : refMaxima v0 v2 v4 v8 (ix1 R) = rowMag (refRow v0 v2 v4 v8 R) := by
  exact (refMax_eq _ R _ _ _).trans (congrArg rowMag (funext fun k => ref_y v0 v2 v4 v8 R k))

theorem ref_pay3 : k0_pay3 v0 v2 v4 v8 = expOf (refMaxima v0 v2 v4 v8) := rfl

/-- The reference's exponent of a row. -/
theorem ref_exp : k0_pay3 v0 v2 v4 v8 (ix2 R 0) = rExp (rowMag (refRow v0 v2 v4 v8 R)) := by
  rw [ref_pay3, expOf_eq, refMaxima_eq]

theorem ref_pay4 : k0_pay4 v0 v2 v4 v8 = exp2 (k0_pay3 v0 v2 v4 v8) := by
  unfold k0_pay4
  with_reducible rfl

theorem exp2_at (f : FVec Ideal S12288x1 .f32) : exp2 f (ix2 R 0) = Ideal.exp2 (f (ix2 R 0)) := rfl

/-- The reference's scale of a row. -/
theorem ref_scale : k0_pay4 v0 v2 v4 v8 (ix2 R 0) = scaleAt (refRow v0 v2 v4 v8 R) := by
  rw [ref_pay4, exp2_at, ref_exp, scaleAt]

theorem ref_pay5 : k0_pay5 v0 v2 v4 v8
    = subf (broadcast S12288x1 (Scalar.ofBits .f32 0x00000000#32)) (k0_pay3 v0 v2 v4 v8) := by
  unfold k0_pay5
  with_reducible rfl

theorem neg_at (f : FVec Ideal S12288x1 .f32) :
    subf (broadcast S12288x1 (Scalar.ofBits .f32 0x00000000#32)) f (ix2 R 0) = 0 - f (ix2 R 0) := by
  pointwise []

/-- A value of `y` times the power of two with exponent `f`, clipped. -/
theorem clip_at (y : FVec Ideal S12288x8192 .f32) (f : FVec Ideal S12288x1 .f32) :
    k0_pay1 y f (ix2 R k) = min (Ideal.ofBits .f32 0x43E00000#32)
      (max (Ideal.ofBits .f32 0xC3E00000#32) (y (ix2 R k) * Ideal.exp2 (f (ix2 R 0)))) := by
  pointwise [k0_pay1]
  rfl

/-- The reference's code. -/
theorem ref_code : k0_pay1 (k0_pay2 v0 v2 v4 v8) (k0_pay5 v0 v2 v4 v8) (ix2 R k) = codeAt (refRow v0 v2 v4 v8 R) k := by
  rw [clip_at, ref_pay5, neg_at, ref_exp, ref_y, codeAt]

end Requant
-- ==== Proof.ReferenceArrays.lean ====
/- The two arrays the reference leaves, as functions of the arrays it is launched on, and its run.

   The reference is one launch on whole arrays: its one block is the array. -/
module

public import proofs.«01_k».proof.Proof.Gen.ReferenceIdeal.Frame
public import proofs.«01_k».proof.Proof.ReferenceRow
public import Idealize.ShloMosaic.Lib.Pipeline.Value

@[expose] public section

set_option maxRecDepth 16384

open Idealize.ShloMosaic Idealize.ShloMosaic.TcCoe Idealize.SL.Sem
open Cert.ReferenceIdeal Cert.ReferenceIdeal.Gen

noncomputable section

namespace Requant

section
variable (x0 : Vec Ideal S12288x4608 .fp8e4m3) (x1 : Vec Ideal S12288x1 .f32) (x2 : Vec Ideal S4608x8192 .fp8e4m3)
  (x3 : Vec Ideal S1x8192 .f32) (R : Fin 12288)

theorem ref_out_scale : out0_4 x0 x1 x2 x3 (ix2 R 0) = scaleAt (refRow x0 x2 x1 x3 R) := by
  frame_out
  exact ref_scale x0 x2 x1 x3 R

theorem ref_out_code (k : Fin 8192) : out0_5 x0 x1 x2 x3 (ix2 R k) = codeAt (refRow x0 x2 x1 x3 R) k := by
  frame_out
  exact ref_code x0 x2 x1 x3 R k

end

variable (m : (ℓ : Loc nD τ sig) → Buf (Elt Ideal) ℓ) (ρ : Dev nD → PrngReg)

/-- Row `R` of the product, from the arrays as the launch finds them. -/
def referenceRow (c : Dev nD) (R : Fin 12288) : Fin 8192 → EReal :=
  refRow (V m c main_v0 : Vec Ideal S12288x4608 .fp8e4m3) (V m c main_arg2 : Vec Ideal S4608x8192 .fp8e4m3)
    (V m c main_v1 : Vec Ideal S12288x1 .f32) (V m c main_arg3 : Vec Ideal S1x8192 .f32) R

/-- Every window stands at its one block. -/
theorem ref_idx : ∀ t : Fin cfg0.N, (cfg0.win 0).index t = ![0, 0] ∧ (cfg0.win 1).index t = ![0, 0]
    ∧ (cfg0.win 2).index t = ![0, 0] ∧ (cfg0.win 3).index t = ![0, 0] ∧ (cfg0.win 4).index t = ![0, 0]
    ∧ (cfg0.win 5).index t = ![0, 0] := by
  decide +kernel

theorem refRow_iblk (c : Dev nD) (t : Fin cfg0.N) (R : Fin 12288) :
    refRow (iblk m c 0 t) (iblk m c 2 t) (iblk m c 1 t) (iblk m c 3 t) R = referenceRow m c R := by
  obtain ⟨i0, i1, i2, i3, -, -⟩ := ref_idx t
  have e0 : ∀ k : Fin 4608, (iblk m c 0 t : Vec Ideal S12288x4608 .fp8e4m3) (ix2 R k)
      = (V m c main_v0 : Vec Ideal S12288x4608 .fp8e4m3) (ix2 R k) := fun k => by
    blk_ext [iblk, i0]
  have e1 : (iblk m c 1 t : Vec Ideal S12288x1 .f32) (ix2 R 0) = (V m c main_v1 : Vec Ideal S12288x1 .f32) (ix2 R 0) := by
    blk_ext [iblk, i1]
  have e2 : ∀ (k : Fin 4608) (q : Fin 8192), (iblk m c 2 t : Vec Ideal S4608x8192 .fp8e4m3) (ix2 k q)
      = (V m c main_arg2 : Vec Ideal S4608x8192 .fp8e4m3) (ix2 k q) := fun k q => by
    blk_ext [iblk, i2]
  have e3 : ∀ q : Fin 8192, (iblk m c 3 t : Vec Ideal S1x8192 .f32) (ix2 0 q)
      = (V m c main_arg3 : Vec Ideal S1x8192 .f32) (ix2 0 q) := fun q => by
    blk_ext [iblk, i3]
  unfold referenceRow refRow
  simp only [e0, e1, e2, e3]

theorem ref_after_scale (c : Dev nD) (t : Fin cfg0.N) (R : Fin 12288) :
    ((dats m 0 c).after 4 t : Vec Ideal S12288x1 .f32) (ix2 R 0) = scaleAt (referenceRow m c R) := by
  rw [after0_4, ← refRow_iblk m c t R]
  exact ref_out_scale _ _ _ _ R

theorem ref_after_code (c : Dev nD) (t : Fin cfg0.N) (R : Fin 12288) (k : Fin 8192) :
    ((dats m 0 c).after 5 t : Vec Ideal S12288x8192 .fp8e4m3) (ix2 R k) = codeAt (referenceRow m c R) k := by
  rw [after0_5, ← refRow_iblk m c t R]
  exact ref_out_code _ _ _ _ R k

/-- The first result: the scale of every row. -/
theorem reference_scales (c : Dev nD) :
    (dats m 0 c).arrAt 4 cfg0.N = fun j : S12288x1.Idx => scaleAt (referenceRow m c (j 0)) := by
  refine (dats m 0 c).arrAt_eq_of_covers 4 _ (by decide +kernel) fun t hf y => ?_
  obtain ⟨-, -, -, -, i4, -⟩ := ref_idx t
  obtain ⟨R, rfl⟩ : ∃ R : Fin 12288, y = ix2 R 0 := ⟨y 0, by
    funext d; fin_cases d <;> [rfl; exact Subsingleton.elim (α := Fin 1) _ _]⟩
  have e : ((cfg0.win 4).blk t).view.emb (ix2 R 0) 0 = R := Fin.ext (by blk_simp [i4])
  refine Eq.trans ?_ (congrArg (fun r => scaleAt (referenceRow m c r)) e.symm)
  exact ref_after_scale m c t R

/-- The second result: every code. -/
theorem reference_codes (c : Dev nD) :
    (dats m 0 c).arrAt 5 cfg0.N = fun j : S12288x8192.Idx => codeAt (referenceRow m c (j 0)) (j 1) := by
  refine (dats m 0 c).arrAt_eq_of_covers 5 _ (by decide +kernel) fun t hf y => ?_
  obtain ⟨-, -, -, -, -, i5⟩ := ref_idx t
  obtain ⟨R, k, rfl⟩ : ∃ (R : Fin 12288) (k : Fin 8192), y = ix2 R k := ⟨y 0, y 1, by funext d; fin_cases d <;> rfl⟩
  have e : ((cfg0.win 5).blk t).view.emb (ix2 R k) 0 = R := Fin.ext (by blk_simp [i5])
  have e' : ((cfg0.win 5).blk t).view.emb (ix2 R k) 1 = k := Fin.ext (by blk_simp [i5])
  refine Eq.trans ?_ (congrArg₂ (fun r q => codeAt (referenceRow m c r) q) e.symm e'.symm)
  exact ref_after_code m c t R k

/-- The reference's run: it ends with the two results named, its arguments unchanged. -/
theorem reference_run : θ_run defs (onTc (τ := τ) (main (F := Ideal))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Requant
-- ==== Proof.Agree.lean ====
/- On equal arguments the two programs compute from equal rows, so their results are equal. -/
module

public import proofs.«01_k».proof.Proof.KernelArrays
public import proofs.«01_k».proof.Proof.ReferenceArrays
public import Idealize.ShloMosaic.Lib.Claim

@[expose] public section

set_option maxRecDepth 16384

open Idealize.ShloMosaic Idealize.ShloMosaic.TcCoe Idealize.SL.Sem

noncomputable section

namespace Requant

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are launched on equal arguments. -/
abbrev Same : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)

/-- Both programs reshape the activations the same way before their launch. -/
theorem x_agree (h : Same m m' c) :
    (Cert.ReferenceIdeal.Gen.V m' c Cert.ReferenceIdeal.main_v0 : Vec Ideal Cert.ReferenceIdeal.S12288x4608 .fp8e4m3)
      = (Cert.KernelIdeal.Gen.V m c Cert.KernelIdeal.main_v0 : Vec Ideal Cert.KernelIdeal.S12288x4608 .fp8e4m3) := by
  entry_read
  rw [h.1]
  rfl

/-- And the scales of the activations. -/
theorem xs_agree (h : Same m m' c) :
    (Cert.ReferenceIdeal.Gen.V m' c Cert.ReferenceIdeal.main_v1 : Vec Ideal Cert.ReferenceIdeal.S12288x1 .f32)
      = (Cert.KernelIdeal.Gen.V m c Cert.KernelIdeal.main_v1 : Vec Ideal Cert.KernelIdeal.S12288x1 .f32) := by
  entry_read
  rw [h.2.1]
  rfl

/-- So every row of the product is the same. -/
theorem row_agree (h : Same m m' c) (R : Fin 12288) : referenceRow m' c R = kernelRow m c R := by
  unfold referenceRow kernelRow refRow
  rw [x_agree m m' c h, xs_agree m m' c h, Cert.ReferenceIdeal.Gen.V_main_arg2, Cert.ReferenceIdeal.Gen.V_main_arg3,
    Cert.KernelIdeal.Gen.V_main_arg2, Cert.KernelIdeal.Gen.V_main_arg3, h.2.2.1, h.2.2.2]

theorem scales_agree (h : Same m m' c) :
    (Cert.ReferenceIdeal.Gen.dats m' 0 c).arrAt 4 Cert.ReferenceIdeal.cfg0.N
      = (Cert.KernelIdeal.Gen.dats m 0 c).arrAt 4 Cert.KernelIdeal.cfg0.N := by
  rw [reference_scales, kernel_scales]
  exact funext fun j => congrArg scaleAt (row_agree m m' c h (j 0))

theorem codes_agree (h : Same m m' c) :
    (Cert.ReferenceIdeal.Gen.dats m' 0 c).arrAt 5 Cert.ReferenceIdeal.cfg0.N
      = (Cert.KernelIdeal.Gen.dats m 0 c).arrAt 5 Cert.KernelIdeal.cfg0.N := by
  rw [reference_codes, kernel_codes]
  exact funext fun j => congrArg (codeAt · (j 1)) (row_agree m m' c h (j 0))

end Requant
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the reference, on equal arguments, end with the same scales and the same codes. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 4 _, fun c => (Cert.KernelIdeal.Gen.dats m 0 c).arrAt 5 _,
    Cert.KernelIdeal.Value.run_blocks m g, ?_⟩
  refine (θ_run _ _ _).mono (fun r h c => ?_) (Requant.reference_run m' g')
  obtain ⟨h0, h1, ha⟩ := h c
  exact ⟨h0.trans (Requant.scales_agree m m' c (hagree c)), h1.trans (Requant.codes_agree m m' c (hagree c)), ha⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
